-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x14x2 : Shape := ⟨3, ![16384, 14, 2]⟩
abbrev S16384x14x14x14 : Shape := ⟨4, ![16384, 14, 14, 14]⟩
abbrev S14x14x14x16384 : Shape := ⟨4, ![14, 14, 14, 16384]⟩
abbrev S14x2x16384 : Shape := ⟨3, ![14, 2, 16384]⟩
abbrev S1x1 : Shape := ⟨2, ![1, 1]⟩
abbrev S14x14x14x1024 : Shape := ⟨4, ![14, 14, 14, 1024]⟩
abbrev S14x2x1024 : Shape := ⟨3, ![14, 2, 1024]⟩
abbrev S14x14x1024 : Shape := ⟨3, ![14, 14, 1024]⟩
abbrev S14x1x14x1024 : Shape := ⟨4, ![14, 1, 14, 1024]⟩
abbrev S14x1024 : Shape := ⟨2, ![14, 1024]⟩
abbrev S14x1x1024 : Shape := ⟨3, ![14, 1, 1024]⟩
abbrev S28x1024 : Shape := ⟨2, ![28, 1024]⟩
abbrev S1x14x1024 : Shape := ⟨3, ![1, 14, 1024]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S16384x14x2, .f32⟩
  | .hbm, ⟨1, _⟩ => ⟨S16384x14x14x14, .f32⟩
  | .hbm, ⟨2, _⟩ => ⟨S16384x14x2, .f32⟩
  | .hbm, ⟨3, _⟩ => ⟨S16384x14x2, .f32⟩
  | .hbm, ⟨4, _⟩ => ⟨S14x14x14x16384, .f32⟩
  | .hbm, ⟨5, _⟩ => ⟨S14x2x16384, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S14x14x14x1024, .f32⟩
  | .local _ .vmem, ⟨1, _⟩ => ⟨S14x14x14x1024, .f32⟩
  | .local _ .vmem, ⟨2, _⟩ => ⟨S14x2x1024, .f32⟩
  | .local _ .vmem, ⟨3, _⟩ => ⟨S14x2x1024, .f32⟩
  | .local _ .vmem, ⟨4, _⟩ => ⟨S1x1, .f32⟩
  | _, _ => ⟨S16384x14x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S14x14x14x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S14x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S16384x14x2 : Shape := ⟨3, ![16384, 14, 2]⟩
abbrev S16384x14x14x14 : Shape := ⟨4, ![16384, 14, 14, 14]⟩
abbrev S_ : Shape := ⟨0, ![]⟩
abbrev S16384x14x1 : Shape := ⟨3, ![16384, 14, 1]⟩
abbrev S16384x14 : Shape := ⟨2, ![16384, 14]⟩
abbrev S16384 : Shape := ⟨1, ![16384]⟩
abbrev S16384x1 : Shape := ⟨2, ![16384, 1]⟩
abbrev S14 : Shape := ⟨1, ![14]⟩
abbrev S1x14 : Shape := ⟨2, ![1, 14]⟩
abbrev S16384x14x4 : Shape := ⟨3, ![16384, 14, 4]⟩
abbrev S16384x14x196 : Shape := ⟨3, ![16384, 14, 196]⟩
abbrev S16384x28 : Shape := ⟨2, ![16384, 28]⟩
abbrev S458752 : Shape := ⟨1, ![458752]⟩
abbrev S1x458752 : Shape := ⟨2, ![1, 458752]⟩
abbrev S1 : Shape := ⟨1, ![1]⟩

abbrev nBuf : Space → Nat
  | .hbm => 124
  | .vmem => 0
  | .smem => 0
  | _ => 0

abbrev bufTy : (tb : Table) → Fin (tcTables nBuf tb) → BufTy
  | .hbm, ⟨0, _⟩ => ⟨S16384x14x2, .f32⟩
  | .hbm, ⟨1, _⟩ => ⟨S16384x14x14x14, .f32⟩
  | .hbm, ⟨2, _⟩ => ⟨S16384x14x2, .f32⟩
  | .hbm, ⟨3, _⟩ => ⟨S16384x14x2, .f32⟩
  | .hbm, ⟨4, _⟩ => ⟨S_, .f32⟩
  | .hbm, ⟨5, _⟩ => ⟨S16384x14x2, .f32⟩
  | .hbm, ⟨6, _⟩ => ⟨S16384x14x2, .f32⟩
  | .hbm, ⟨7, _⟩ => ⟨S16384x14x1, .f32⟩
  | .hbm, ⟨8, _⟩ => ⟨S16384x14, .f32⟩
  | .hbm, ⟨9, _⟩ => ⟨S16384x14, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384x14, .i32⟩
  | .hbm, ⟨14, _⟩ => ⟨S16384x14, .i32⟩
  | .hbm, ⟨15, _⟩ => ⟨S_, .i32⟩
  | .hbm, ⟨16, _⟩ => ⟨S16384x14, .i32⟩
  | .hbm, ⟨17, _⟩ => ⟨S16384x14, .i32⟩
  | .hbm, ⟨18, _⟩ => ⟨S16384x14x1, .f32⟩
  | .hbm, ⟨19, _⟩ => ⟨S16384x14, .f32⟩
  | .hbm, ⟨20, _⟩ => ⟨S16384x14, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S16384x14, .i32⟩
  | .hbm, ⟨25, _⟩ => ⟨S16384x14, .i32⟩
  | .hbm, ⟨26, _⟩ => ⟨S_, .i32⟩
  | .hbm, ⟨27, _⟩ => ⟨S16384x14, .i32⟩
  | .hbm, ⟨28, _⟩ => ⟨S16384x14, .i32⟩
  | .hbm, ⟨29, _⟩ => ⟨S16384, .i32⟩
  | .hbm, ⟨30, _⟩ => ⟨S16384x1, .i32⟩
  | .hbm, ⟨31, _⟩ => ⟨S16384x14, .i32⟩
  | .hbm, ⟨32, _⟩ => ⟨S14, .i32⟩
  | .hbm, ⟨33, _⟩ => ⟨S1x14, .i32⟩
  | .hbm, ⟨34, _⟩ => ⟨S16384x14, .i32⟩
  | .hbm, ⟨35, _⟩ => ⟨S_, .f32⟩
  | .hbm, ⟨36, _⟩ => ⟨S16384x14x14x14, .f32⟩
  | .hbm, ⟨37, _⟩ => ⟨S_, .i32⟩
  | .hbm, ⟨38, _⟩ => ⟨S16384x14, .i32⟩
  | .hbm, ⟨39, _⟩ => ⟨S16384x14, .i1⟩
  | .hbm, ⟨40, _⟩ => ⟨S_, .i32⟩
  | .hbm, ⟨41, _⟩ => ⟨S16384x14, .i32⟩
  | .hbm, ⟨42, _⟩ => ⟨S16384x14, .i32⟩
  | .hbm, ⟨43, _⟩ => ⟨S16384x14, .i32⟩
  | .hbm, ⟨44, _⟩ => ⟨S_, .i32⟩
  | .hbm, ⟨45, _⟩ => ⟨S16384x14, .i32⟩
  | .hbm, ⟨46, _⟩ => ⟨S16384x14, .i1⟩
  | .hbm, ⟨47, _⟩ => ⟨S_, .i32⟩
  | .hbm, ⟨48, _⟩ => ⟨S16384x14, .i32⟩
  | .hbm, ⟨49, _⟩ => ⟨S16384x14, .i32⟩
  | .hbm, ⟨50, _⟩ => ⟨S16384x14, .i32⟩
  | .hbm, ⟨51, _⟩ => ⟨S_, .i32⟩
  | .hbm, ⟨52, _⟩ => ⟨S16384x14, .i32⟩
  | .hbm, ⟨53, _⟩ => ⟨S16384x14, .i1⟩
  | .hbm, ⟨54, _⟩ => ⟨S_, .i32⟩
  | .hbm, ⟨55, _⟩ => ⟨S16384x14, .i32⟩
  | .hbm, ⟨56, _⟩ => ⟨S16384x14, .i32⟩
  | .hbm, ⟨57, _⟩ => ⟨S16384x14, .i32⟩
  | .hbm, ⟨58, _⟩ => ⟨S_, .i32⟩
  | .hbm, ⟨59, _⟩ => ⟨S16384x14, .i32⟩
  | .hbm, ⟨60, _⟩ => ⟨S16384x14, .i1⟩
  | .hbm, ⟨61, _⟩ => ⟨S_, .i32⟩
  | .hbm, ⟨62, _⟩ => ⟨S16384x14, .i32⟩
  | .hbm, ⟨63, _⟩ => ⟨S16384x14, .i32⟩
  | .hbm, ⟨64, _⟩ => ⟨S16384x14, .i32⟩
  | .hbm, ⟨65, _⟩ => ⟨S16384x14x1, .i32⟩
  | .hbm, ⟨66, _⟩ => ⟨S16384x14x1, .i32⟩
  | .hbm, ⟨67, _⟩ => ⟨S16384x14x1, .i32⟩
  | .hbm, ⟨68, _⟩ => ⟨S16384x14x1, .i32⟩
  | .hbm, ⟨69, _⟩ => ⟨S16384x14x4, .i32⟩
  | .hbm, ⟨70, _⟩ => ⟨S_, .f32⟩
  | .hbm, ⟨71, _⟩ => ⟨S16384x14, .f32⟩
  | .hbm, ⟨72, _⟩ => ⟨S16384x14x14x14, .f32⟩
  | .hbm, ⟨73, _⟩ => ⟨S16384x14x196, .f32⟩
  | .hbm, ⟨74, _⟩ => ⟨S16384x14x196, .i32⟩
  | .hbm, ⟨75, _⟩ => ⟨S_, .f32⟩
  | .hbm, ⟨76, _⟩ => ⟨S_, .i32⟩
  | .hbm, ⟨77, _⟩ => ⟨S16384x14, .f32⟩
  | .hbm, ⟨78, _⟩ => ⟨S16384x14, .i32⟩
  | .hbm, ⟨79, _⟩ => ⟨S_, .i32⟩
  | .hbm, ⟨80, _⟩ => ⟨S_, .i32⟩
  | .hbm, ⟨81, _⟩ => ⟨S16384x14, .i32⟩
  | .hbm, ⟨82, _⟩ => ⟨S16384x14, .i32⟩
  | .hbm, ⟨83, _⟩ => ⟨S16384x14, .i32⟩
  | .hbm, ⟨84, _⟩ => ⟨S_, .i32⟩
  | .hbm, ⟨85, _⟩ => ⟨S16384x14, .i32⟩
  | .hbm, ⟨86, _⟩ => ⟨S16384x14, .i1⟩
  | .hbm, ⟨87, _⟩ => ⟨S16384x14, .i32⟩
  | .hbm, ⟨88, _⟩ => ⟨S16384x14, .i32⟩
  | .hbm, ⟨89, _⟩ => ⟨S_, .i32⟩
  | .hbm, ⟨90, _⟩ => ⟨S16384x14, .i32⟩
  | .hbm, ⟨91, _⟩ => ⟨S16384x14, .i1⟩
  | .hbm, ⟨92, _⟩ => ⟨S16384x14, .i1⟩
  | .hbm, ⟨93, _⟩ => ⟨S_, .i32⟩
  | .hbm, ⟨94, _⟩ => ⟨S16384x14, .i32⟩
  | .hbm, ⟨95, _⟩ => ⟨S16384x14, .i32⟩
  | .hbm, ⟨96, _⟩ => ⟨S16384x14, .i32⟩
  | .hbm, ⟨97, _⟩ => ⟨S_, .i32⟩
  | .hbm, ⟨98, _⟩ => ⟨S16384x14, .i32⟩
  | .hbm, ⟨99, _⟩ => ⟨S16384x14, .i32⟩
  | .hbm, ⟨100, _⟩ => ⟨S16384x14, .i32⟩
  | .hbm, ⟨101, _⟩ => ⟨S16384x14, .f32⟩
  | .hbm, ⟨102, _⟩ => ⟨S_, .f32⟩
  | .hbm, ⟨103, _⟩ => ⟨S16384x14, .f32⟩
  | .hbm, ⟨104, _⟩ => ⟨S16384x14, .f32⟩
  | .hbm, ⟨105, _⟩ => ⟨S_, .f32⟩
  | .hbm, ⟨106, _⟩ => ⟨S16384x14, .f32⟩
  | .hbm, ⟨107, _⟩ => ⟨S16384x14, .f32⟩
  | .hbm, ⟨108, _⟩ => ⟨S16384x14, .f32⟩
  | .hbm, ⟨109, _⟩ => ⟨S_, .f32⟩
  | .hbm, ⟨110, _⟩ => ⟨S16384x14, .f32⟩
  | .hbm, ⟨111, _⟩ => ⟨S16384x14, .f32⟩
  | .hbm, ⟨112, _⟩ => ⟨S_, .f32⟩
  | .hbm, ⟨113, _⟩ => ⟨S16384x14, .f32⟩
  | .hbm, ⟨114, _⟩ => ⟨S16384x14, .f32⟩
  | .hbm, ⟨115, _⟩ => ⟨S16384x28, .f32⟩
  | .hbm, ⟨116, _⟩ => ⟨S16384x14x2, .f32⟩
  | .hbm, ⟨117, _⟩ => ⟨S16384x14x2, .f32⟩
  | .hbm, ⟨118, _⟩ => ⟨S458752, .f32⟩
  | .hbm, ⟨119, _⟩ => ⟨S1x458752, .f32⟩
  | .hbm, ⟨120, _⟩ => ⟨S1, .f32⟩
  | .hbm, ⟨121, _⟩ => ⟨S_, .f32⟩
  | .hbm, ⟨122, _⟩ => ⟨S_, .f32⟩
  | .hbm, ⟨123, _⟩ => ⟨S_, .f32⟩
  | _, _ => ⟨S16384x14x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_c_2 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_8 : Ref sig .tc := ⟨.hbm, 51, rfl⟩
abbrev main_v27 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_10 : Ref sig .tc := ⟨.hbm, 58, rfl⟩
abbrev main_v32 : Ref sig .tc := ⟨.hbm, 59, rfl⟩
abbrev main_v33 : Ref sig .tc := ⟨.hbm, 60, rfl⟩
abbrev main_c_11 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_call2_v0 : Ref sig .tc := ⟨.hbm, 74, rfl⟩
abbrev main_call2_cst : Ref sig .tc := ⟨.hbm, 75, rfl⟩
abbrev main_call2_c : Ref sig .tc := ⟨.hbm, 76, rfl⟩
abbrev main_call2_v1_0 : Ref sig .tc := ⟨.hbm, 77, rfl⟩
abbrev main_v45 : Ref sig .tc := ⟨.hbm, 78, rfl⟩
abbrev main_c_13 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v46 : Ref sig .tc := ⟨.hbm, 96, rfl⟩
abbrev main_c_14 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_15 : Ref sig .tc := ⟨.hbm, 102, rfl⟩
abbrev main_v51 : Ref sig .tc := ⟨.hbm, 103, rfl⟩
abbrev main_v52 : Ref sig .tc := ⟨.hbm, 104, rfl⟩
abbrev main_cst_16 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_17 : Ref sig .tc := ⟨.hbm, 109, rfl⟩
abbrev main_v56 : Ref sig .tc := ⟨.hbm, 110, rfl⟩
abbrev main_v57 : Ref sig .tc := ⟨.hbm, 111, rfl⟩
abbrev main_cst_18 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_19 : Ref sig .tc := ⟨.hbm, 122, rfl⟩
abbrev main_v67 : Ref sig .tc := ⟨.hbm, 123, rfl⟩

abbrev nD : Nat := 1
abbrev τ : Topo := Topo.v7x

variable {F : FTy → Type} [FloatOps F]
-- ==== Proof.FirstMax.lean ====
/-
  The first place of a greatest value, on extended reals, in the three forms in which it is met: as a property
  of a place (`IsFirst`), as what a left fold that keeps the better of two (value, index) pairs returns
  (`foldl_keeps`), and as what two rounds of "least index at which the maximum is met" return, one along the
  rows of a square and one along its columns (`two_rounds`).
-/
module

public import Idealize.ShloMosaic.PureOps.Ideal.Laws
public import Mathlib.Data.Finset.Fold
public import Mathlib.Data.Finset.Max

@[expose] public section

noncomputable section

namespace Cert.FirstMax

open Idealize.ShloMosaic

/-- `k` is the first place at which `g` is greatest. -/
structure IsFirst {n : ℕ} (g : Fin n → EReal) (k : Fin n) : Prop where
  /-- no value is above the one at `k` -/
  le : ∀ q, g q ≤ g k
  /-- every place with the same value comes no earlier -/
  first : ∀ q, g q = g k → k ≤ q

/-- There is only one such place. -/
theorem IsFirst.unique {n : ℕ} {g : Fin n → EReal} {k k' : Fin n} (h : IsFirst g k) (h' : IsFirst g k') : k = k' :=
  le_antisymm (h.first k' (le_antisymm (h.le k') (h'.le k))) (h'.first k (le_antisymm (h'.le k) (h.le k')))

/-- A function on a non-empty range has such a place. -/
theorem exists_isFirst {n : ℕ} (hn : 0 < n) (g : Fin n → EReal) : ∃ k, IsFirst g k := by
  haveI : Nonempty (Fin n) := ⟨⟨0, hn⟩⟩
  obtain ⟨k₀, hk₀⟩ := Finite.exists_max g
  let S : Finset (Fin n) := Finset.univ.filter fun q => g q = g k₀
  have hS : S.Nonempty := ⟨k₀, by simp [S]⟩
  have hm : g (S.min' hS) = g k₀ := (Finset.mem_filter.1 (S.min'_mem hS)).2
  exact ⟨S.min' hS, fun q => hm ▸ hk₀ q, fun q hq => S.min'_le q (by simp [S, hq.trans hm])⟩

/-- The place itself, among the 196 places of a 14 by 14 square laid out row by row. -/
def place (g : Fin 196 → EReal) : Fin 196 := (exists_isFirst (by decide) g).choose

theorem place_isFirst (g : Fin 196 → EReal) : IsFirst g (place g) := (exists_isFirst (by decide) g).choose_spec

/-- The 14 by 14 square `h` laid out row by row. -/
def flat (h : Fin 14 → Fin 14 → EReal) : Fin 196 → EReal :=
  fun q => h ⟨q.val / 14, by omega⟩ ⟨q.val % 14, by omega⟩

/-- The row of the first greatest value of `h`, read row by row. -/
def rowOf (h : Fin 14 → Fin 14 → EReal) : Fin 14 := ⟨(place (flat h)).val / 14, by omega⟩

/-- The column of the first greatest value of `h`, read row by row. -/
def colOf (h : Fin 14 → Fin 14 → EReal) : Fin 14 := ⟨(place (flat h)).val % 14, by omega⟩

theorem le_rowOf_colOf (h : Fin 14 → Fin 14 → EReal) (r c : Fin 14) : h r c ≤ h (rowOf h) (colOf h) := by
  have := (place_isFirst (flat h)).le ⟨14 * r.val + c.val, by omega⟩
  have h1 : (14 * r.val + c.val) / 14 = r.val := by omega
  have h2 : (14 * r.val + c.val) % 14 = c.val := by omega
  simp only [flat, h1, h2, Fin.eta] at this
  exact this

theorem rowOf_colOf_first (h : Fin 14 → Fin 14 → EReal) (r c : Fin 14) (he : h r c = h (rowOf h) (colOf h)) :
    14 * (rowOf h).val + (colOf h).val ≤ 14 * r.val + c.val := by
  have h1 : (14 * r.val + c.val) / 14 = r.val := by omega
  have h2 : (14 * r.val + c.val) % 14 = c.val := by omega
  have := (place_isFirst (flat h)).first ⟨14 * r.val + c.val, by omega⟩ (by
    simp only [flat, h1, h2, Fin.eta]; exact he)
  have h3 : (place (flat h)).val ≤ 14 * r.val + c.val := this
  have h4 : (rowOf h).val = (place (flat h)).val / 14 := rfl
  have h5 : (colOf h).val = (place (flat h)).val % 14 := rfl
  omega

/-! ## Folds -/

/-- A left fold of a function that always returns one of its two arguments, and one that is at least as good as
    the other, returns the start or a member of the list, and nothing in play is better. -/
theorem foldl_keeps {α : Type} (R : α → α → Prop) (hrefl : ∀ a, R a a) (htrans : ∀ a b c, R a b → R b c → R a c)
    (f : α → α → α) (hf : ∀ a b, (f a b = a ∧ R b a) ∨ (f a b = b ∧ R a b)) :
    ∀ (L : List α) (a : α), (L.foldl f a = a ∨ L.foldl f a ∈ L) ∧ R a (L.foldl f a) ∧ ∀ x ∈ L, R x (L.foldl f a)
  | [], a => ⟨.inl rfl, hrefl a, by simp⟩
  | b :: L, a => by
    obtain ⟨h1, h2, h3⟩ := foldl_keeps R hrefl htrans f hf L (f a b)
    have hab : R a (f a b) ∧ R b (f a b) := by
      rcases hf a b with ⟨e, h⟩ | ⟨e, h⟩ <;> rw [e]
      · exact ⟨hrefl _, h⟩
      · exact ⟨h, hrefl _⟩
    rw [List.foldl_cons]
    refine ⟨?_, htrans _ _ _ hab.1 h2, ?_⟩
    · rcases h1 with h1 | h1
      · rcases hf a b with ⟨e, _⟩ | ⟨e, _⟩
        · exact .inl (h1.trans e)
        · right; rw [h1, e]; exact List.mem_cons_self
      · exact .inr (List.mem_cons_of_mem _ h1)
    · intro x hx
      rcases List.mem_cons.1 hx with rfl | hx
      · exact htrans _ _ _ hab.2 h2
      · exact h3 x hx

/-- A fold of the signed minimum is any word that is met among the folded ones and above none of them. -/
theorem fold_minsi_eq {n : ℕ} (init v : BitVec 32) (f : Fin n → BitVec 32) (hi : v.toInt ≤ init.toInt)
    (hle : ∀ q, v.toInt ≤ (f q).toInt) (hex : ∃ q, f q = v) :
    Finset.fold IntOp.minsi init f Finset.univ = v := by
  have hm : ∀ x y : BitVec 32, (IntOp.minsi x y).toInt = min x.toInt y.toInt := by
    intro x y
    unfold IntOp.minsi
    rw [BitVec.slt_eq_decide]
    by_cases h : x.toInt < y.toInt
    · simp [h, min_eq_left h.le]
    · simp [h, min_eq_right (not_lt.1 h)]
  apply BitVec.eq_of_toInt_eq
  rw [← Finset.fold_hom (m := BitVec.toInt) (op' := min) hm]
  obtain ⟨q, hq⟩ := hex
  refine le_antisymm (Finset.fold_min_le _ |>.2 (.inr ⟨q, Finset.mem_univ q, hq ▸ le_rfl⟩)) ?_
  exact (Finset.le_fold_min _).2 ⟨hi, fun q _ => hle q⟩

/-- A fold of the maximum from the least extended real is above every folded value, -/
theorem le_fold_max {n : ℕ} (f : Fin n → EReal) (q : Fin n) : f q ≤ Finset.fold max ⊥ f Finset.univ :=
  (Finset.le_fold_max _).2 (.inr ⟨q, Finset.mem_univ q, le_rfl⟩)

/-- and below every bound of them. -/
theorem fold_max_le {n : ℕ} (f : Fin n → EReal) (M : EReal) (h : ∀ q, f q ≤ M) :
    Finset.fold max ⊥ f Finset.univ ≤ M :=
  (Finset.fold_max_le _).2 ⟨bot_le, fun q _ => h q⟩

/-- So it is the value at a place at which the function is greatest. -/
theorem fold_max_eq {n : ℕ} (f : Fin n → EReal) (k : Fin n) (h : ∀ q, f q ≤ f k) :
    Finset.fold max ⊥ f Finset.univ = f k :=
  le_antisymm (fold_max_le f _ h) (le_fold_max f k)

/-- A small word read as a signed number. -/
theorem toInt_ofNat_small {n : ℕ} (h : n < 2147483648) : (BitVec.ofNat 32 n).toInt = n := by
  rw [BitVec.toInt_eq_toNat_of_lt] <;> simp only [BitVec.toNat_ofNat] <;> omega

/-! ## Two rounds -/

/-- The greatest value of a column. -/
def colMax (h : Fin 14 → Fin 14 → EReal) (c : Fin 14) : EReal := Finset.fold max ⊥ (fun r => h r c) Finset.univ

/-- The least row of a column at which its greatest value is met, as a word. -/
def colArg (h : Fin 14 → Fin 14 → EReal) (c : Fin 14) : BitVec 32 :=
  Finset.fold IntOp.minsi 2147483647#32 (fun r : Fin 14 => if h r c = colMax h c then BitVec.ofNat 32 r.val else 14#32)
    Finset.univ

/-- The least code `16 * row + column` over the columns whose greatest value is the greatest of all. -/
def code (h : Fin 14 → Fin 14 → EReal) : BitVec 32 :=
  Finset.fold IntOp.minsi 2147483647#32
    (fun c : Fin 14 => if colMax h c = Finset.fold max ⊥ (colMax h) Finset.univ
      then IntOp.addi (IntOp.muli (colArg h c) 16#32) (BitVec.ofNat 32 c.val) else 4096#32)
    Finset.univ

/-- The column's least row is a row at which the column's greatest value is met, and none before it meets it. -/
theorem colArg_spec (h : Fin 14 → Fin 14 → EReal) (c : Fin 14) :
    ∃ r : Fin 14, colArg h c = BitVec.ofNat 32 r.val ∧ h r c = colMax h c ∧ ∀ q, h q c = colMax h c → r ≤ q := by
  obtain ⟨r, hr⟩ := exists_isFirst (n := 14) (by decide) fun r => h r c
  have hM : colMax h c = h r c := fold_max_eq (fun r => h r c) r hr.le
  refine ⟨r, ?_, hM.symm, fun q hq => hr.first q (hq.trans hM)⟩
  have hrr := r.isLt
  refine fold_minsi_eq _ _ _ ?_ ?_ ⟨r, by rw [if_pos hM.symm]⟩
  · rw [toInt_ofNat_small (by omega)]
    have : (2147483647#32 : BitVec 32).toInt = 2147483647 := by decide
    omega
  · intro q
    rw [toInt_ofNat_small (by omega)]
    split
    · rename_i hq
      have : r ≤ q := hr.first q (hq.trans hM)
      have hqq := q.isLt
      rw [toInt_ofNat_small (by omega)]
      exact_mod_cast this
    · have : (14#32 : BitVec 32).toInt = 14 := by decide
      omega

/-- The word `16 * row + column`. -/
theorem code_word (r c : Fin 14) :
    IntOp.addi (IntOp.muli (BitVec.ofNat 32 r.val) 16#32) (BitVec.ofNat 32 c.val) = BitVec.ofNat 32 (16 * r.val + c.val) := by
  revert r c; decide +kernel

/-- Two rounds of least indices find the first greatest value of the square, read row by row. -/
theorem two_rounds (h : Fin 14 → Fin 14 → EReal) : code h = BitVec.ofNat 32 (16 * (rowOf h).val + (colOf h).val) := by
  have hle : ∀ c, colMax h c ≤ h (rowOf h) (colOf h) := fun c => fold_max_le _ _ fun r => le_rowOf_colOf h r c
  have hcol : colMax h (colOf h) = h (rowOf h) (colOf h) := le_antisymm (hle _) (le_fold_max (fun r => h r (colOf h)) (rowOf h))
  have htop : Finset.fold max ⊥ (colMax h) Finset.univ = h (rowOf h) (colOf h) :=
    (fold_max_eq (colMax h) (colOf h) fun c => (hle c).trans_eq hcol.symm).trans hcol
  have hr := (rowOf h).isLt
  have hc := (colOf h).isLt
  refine fold_minsi_eq _ _ _ ?_ ?_ ⟨colOf h, ?_⟩
  · rw [toInt_ofNat_small (by omega)]
    have : (2147483647#32 : BitVec 32).toInt = 2147483647 := by decide
    omega
  · intro c
    rw [toInt_ofNat_small (by omega)]
    split
    · rename_i hq
      obtain ⟨r, e, hM, _⟩ := colArg_spec h c
      have hrl := r.isLt
      have hcl := c.isLt
      have := rowOf_colOf_first h r c (hM.trans (hq.trans htop))
      rw [e, code_word, toInt_ofNat_small (by omega)]
      push_cast
      omega
    · have : (4096#32 : BitVec 32).toInt = 4096 := by decide
      omega
  · obtain ⟨r, e, hM, hfirst⟩ := colArg_spec h (colOf h)
    have h1 : r ≤ rowOf h := hfirst _ hcol.symm
    have h2 := rowOf_colOf_first h r (colOf h) (hM.trans hcol)
    have h3 : r = rowOf h := le_antisymm h1 (by show (rowOf h).val ≤ r.val; omega)
    rw [if_pos (hcol.trans htop.symm), e, h3, code_word]

end Cert.FirstMax

end
-- ==== Proof.Numbers.lean ====
/-
  The numbers of both programs: the extended reals that their float constants denote, the words they compute a
  row and a column with, and the coordinate `n / 16` that each of them makes of a row or a column `n`.
-/
module

public import proofs.«01_k».proof.Proof.FirstMax

@[expose] public section

noncomputable section

namespace Cert.Numbers

open Idealize.ShloMosaic Cert.FirstMax

/-- The coordinate of row or column `n`: a sixteenth of it. -/
def coord (n : ℕ) : EReal := (((n : ℝ) / 16 : ℝ) : EReal)

/-- The pattern of minus infinity denotes the least extended real. -/
theorem ofBits_bot : Ideal.ofBits .f32 0xFF800000#32 = ⊥ := by
  simp [Ideal.ofBits, Ideal.ieee]

/-- A positive normal f32 pattern denotes its significand times two to its exponent. -/
theorem ofBits_normal (w : BitVec 32) (e f : ℕ) (hs : w.extractLsb' 31 1 = 0#1) (he : (w.extractLsb' 23 8).toNat = e)
    (hf : (w.extractLsb' 0 23).toNat = f) (h0 : e ≠ 0) (h1 : e ≠ 255) :
    Ideal.ofBits .f32 w = (((2 ^ 23 + f : ℕ) * (2 : ℝ) ^ ((e : ℤ) - 127 - 23) : ℝ) : EReal) := by
  have hs' : w.extractLsb' (8 + 23) 1 = 0#1 := hs
  show Ideal.ieee 8 23 w = _
  unfold Ideal.ieee
  simp only [hs', he, hf]
  rw [if_neg (by simpa using h1), if_neg h0]
  norm_num

/-- The pattern of 0.0625 denotes a sixteenth. -/
theorem ofBits_sixteenth : Ideal.ofBits .f32 0x3D800000#32 = ((1 / 16 : ℝ) : EReal) := by
  rw [ofBits_normal _ 123 0 (by decide) (by decide) (by decide) (by decide) (by decide)]
  norm_num

/-- The pattern of 14.0 denotes fourteen. -/
theorem ofBits_fourteen : Ideal.ofBits .f32 0x41600000#32 = ((14 : ℝ) : EReal) := by
  rw [ofBits_normal _ 130 6291456 (by decide) (by decide) (by decide) (by decide) (by decide)]
  norm_num

/-- The pattern of 224.0 denotes two hundred and twenty-four. -/
theorem ofBits_224 : Ideal.ofBits .f32 0x43600000#32 = ((224 : ℝ) : EReal) := by
  rw [ofBits_normal _ 134 6291456 (by decide) (by decide) (by decide) (by decide) (by decide)]
  norm_num

/-- A small word as a float, times a sixteenth, is the coordinate of its number. -/
theorem sixteenth_word (n : ℕ) (hn : n < 2147483648) :
    FloatOps.sitofp (F := Ideal) .f32 (BitVec.ofNat 32 n) * Ideal.ofBits .f32 0x3D800000#32 = coord n := by
  show (((BitVec.ofNat 32 n).toInt : ℝ) : EReal) * _ = _
  rw [toInt_ofNat_small hn, ofBits_sixteenth, ← EReal.coe_mul]
  unfold coord
  congr 1
  push_cast
  ring

/-- A small word as a float, times fourteen over two hundred and twenty-four, is the coordinate of its number. -/
theorem ratio_word (n : ℕ) (hn : n < 2147483648) :
    Ideal.div (FloatOps.sitofp (F := Ideal) .f32 (BitVec.ofNat 32 n) * Ideal.ofBits .f32 0x41600000#32)
      (Ideal.ofBits .f32 0x43600000#32) = coord n := by
  show Ideal.div ((((BitVec.ofNat 32 n).toInt : ℝ) : EReal) * _) _ = _
  rw [toInt_ofNat_small hn, ofBits_fourteen, ofBits_224, Ideal.div_coe (by norm_num), ← EReal.coe_mul, ← EReal.coe_mul]
  unfold coord
  congr 1
  push_cast
  ring

/-- The code `16 * row + column` shifted right by four bits is the row, -/
theorem shift_code (r c : Fin 14) :
    IntOp.shrsi .vector (BitVec.ofNat 32 (16 * r.val + c.val)) 4#32 = BitVec.ofNat 32 r.val := by
  revert r c; decide +kernel

/-- and its four low bits are the column. -/
theorem mask_code (r c : Fin 14) :
    IntOp.andi (BitVec.ofNat 32 (16 * r.val + c.val)) 15#32 = BitVec.ofNat 32 c.val := by
  revert r c; decide +kernel

end Cert.Numbers

end
-- ==== Proof.KernelCell.lean ====
/-
  What the kernel's body computes at one joint and one lane of a block: the squared distance, in two terms, between
  the coordinates of the first greatest value of that joint's heat map and the two target words the joint is given.
  The body's payload is cut into five stages; each is read at an index on its own, and the stages compose to it.
-/
module

public import proofs.«01_k».proof.Proof.Gen.KernelIdeal.Skeleton
public import proofs.«01_k».proof.Proof.Numbers
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.FirstMax Cert.Numbers

/-- Stage 1: the greatest value of each column. -/
def colMaxV (x : FVec Ideal S14x14x14x1024 .f32) : FVec Ideal S14x14x1024 .f32 :=
  multiReduction .maximumf [1] S14x14x1024 (shapeCast S14x14x14x1024 x shapeCasts_S14x14x14x1024_S14x14x14x1024)
    0xFF800000#32 reduces_S14x14x14x1024_S14x14x1024 (.inl rfl) rfl

/-- Stage 2: the least row at which a column's greatest value `v` is met. -/
def colArgV (x : FVec Ideal S14x14x14x1024 .f32) (v : FVec Ideal S14x14x1024 .f32) : IVec S14x14x1024 32 :=
  multiReductionI .minsi [1] S14x14x1024
    (select (cmpf .oeq (shapeCast S14x14x14x1024 x shapeCasts_S14x14x14x1024_S14x14x14x1024)
        (broadcastTo S14x14x14x1024 (shapeCast S14x1x14x1024 v shapeCasts_S14x14x1024_S14x1x14x1024) broadcasts_S14x1x14x1024_S14x14x14x1024))
      (iota .tc S14x14x14x1024 32 [1] iota_S14x14x14x1024_d1_w32) (broadcast S14x14x14x1024 14#32))
    2147483647#32 reduces_S14x14x14x1024_S14x14x1024 rfl

/-- Stage 3: the greatest of the columns' greatest values. -/
def topV (v : FVec Ideal S14x14x1024 .f32) : FVec Ideal S14x1024 .f32 :=
  multiReduction .maximumf [1] S14x1024 v 0xFF800000#32 reduces_S14x14x1024_S14x1024 (.inl rfl) rfl

/-- Stage 4: the least code `16 * row + column` over the columns whose greatest value is `w`. -/
def codeV (v : FVec Ideal S14x14x1024 .f32) (a : IVec S14x14x1024 32) (w : FVec Ideal S14x1024 .f32) : IVec S14x1024 32 :=
  multiReductionI .minsi [1] S14x1024
    (select (cmpf .oeq v (broadcastTo S14x14x1024 (shapeCast S14x1x1024 w shapeCasts_S14x1024_S14x1x1024) broadcasts_S14x1x1024_S14x14x1024))
      (addi (muli a (broadcast S14x14x1024 16#32)) (iota .tc S14x14x1024 32 [1] iota_S14x14x1024_d1_w32))
      (broadcast S14x14x1024 4096#32))
    2147483647#32 reduces_S14x14x1024_S14x1024 rfl

/-- Stage 5: the two squared differences between the coordinates a code stands for and the targets. -/
def distV (k : IVec S14x1024 32) (y : FVec Ideal S14x2x1024 .f32) : FVec Ideal S14x1024 .f32 :=
  have px : FVec Ideal S14x1024 .f32 := mulf (sitofp .f32 (andi k (broadcast S14x1024 15#32))) (broadcast S14x1024 (Scalar.ofBits .f32 0x3D800000#32))
  have py : FVec Ideal S14x1024 .f32 := mulf (sitofp .f32 (shrsi k (broadcast S14x1024 4#32))) (broadcast S14x1024 (Scalar.ofBits .f32 0x3D800000#32))
  have tt : FVec Ideal S28x1024 .f32 := shapeCast S28x1024 (shapeCast S14x2x1024 y shapeCasts_S14x2x1024_S14x2x1024) shapeCasts_S14x2x1024_S28x1024
  have d0 : FVec Ideal S14x1024 .f32 := subf px (extractStridedSlice S14x1024 ![0, 0] tt slices_S28x1024_o0_0_S14x1024)
  have d1 : FVec Ideal S14x1024 .f32 := subf py (extractStridedSlice S14x1024 ![14, 0] tt slices_S28x1024_o14_0_S14x1024)
  addf (mulf d0 d0) (mulf d1 d1)

/-- The payload is the five stages composed. -/
theorem pay3_eq (x : FVec Ideal S14x14x14x1024 .f32) (y : FVec Ideal S14x2x1024 .f32) :
    k0_pay3 (F := Ideal) x y = distV (codeV (colMaxV x) (colArgV x (colMaxV x)) (topV (colMaxV x))) y := rfl

/-- The heat map of joint `j` at lane `l` of a block. -/
def mapAt (x : FVec Ideal S14x14x14x1024 .f32) (j : Fin 14) (l : Fin 1024) : Fin 14 → Fin 14 → EReal :=
  fun r c => x (ix4 j r c l)

theorem colMaxV_at (x : FVec Ideal S14x14x14x1024 .f32) (j c : Fin 14) (l : Fin 1024) :
    colMaxV x (ix3 j c l) = colMax (mapAt x j l) c := by
  pointwise [colMaxV]
  rw [ofBits_bot]
  rfl

theorem colArgV_at (x : FVec Ideal S14x14x14x1024 .f32) (v : FVec Ideal S14x14x1024 .f32) (j c : Fin 14) (l : Fin 1024)
    (hv : v (ix3 j c l) = colMax (mapAt x j l) c) : colArgV x v (ix3 j c l) = colArg (mapAt x j l) c := by
  pointwise [colArgV]
  simp only [hv]
  rfl

theorem topV_at (v : FVec Ideal S14x14x1024 .f32) (j : Fin 14) (l : Fin 1024) :
    topV v (ix2 j l) = Finset.fold max ⊥ (fun c : Fin 14 => v (ix3 j c l)) Finset.univ := by
  pointwise [topV]
  rw [ofBits_bot]

theorem codeV_at (x : FVec Ideal S14x14x14x1024 .f32) (v : FVec Ideal S14x14x1024 .f32) (a : IVec S14x14x1024 32)
    (w : FVec Ideal S14x1024 .f32) (j : Fin 14) (l : Fin 1024)
    (hv : ∀ c, v (ix3 j c l) = colMax (mapAt x j l) c) (ha : ∀ c, a (ix3 j c l) = colArg (mapAt x j l) c)
    (hw : w (ix2 j l) = Finset.fold max ⊥ (colMax (mapAt x j l)) Finset.univ) :
    codeV v a w (ix2 j l) = code (mapAt x j l) := by
  pointwise [codeV]
  simp only [hv, ha, hw]
  rfl

theorem distV_at (k : IVec S14x1024 32) (y : FVec Ideal S14x2x1024 .f32) (j : Fin 14) (l : Fin 1024) (r c : Fin 14)
    (hk : k (ix2 j l) = BitVec.ofNat 32 (16 * r.val + c.val)) :
    distV k y (ix2 j l)
      = (coord c.val - y (ix3 ⟨j.val / 2, by omega⟩ ⟨j.val % 2, by omega⟩ l))
          * (coord c.val - y (ix3 ⟨j.val / 2, by omega⟩ ⟨j.val % 2, by omega⟩ l))
        + (coord r.val - y (ix3 ⟨(14 + j.val) / 2, by omega⟩ ⟨(14 + j.val) % 2, by omega⟩ l))
          * (coord r.val - y (ix3 ⟨(14 + j.val) / 2, by omega⟩ ⟨(14 + j.val) % 2, by omega⟩ l)) := by
  have hr := r.isLt
  have hc := c.isLt
  pointwise [distV]
  simp only [hk, shift_code, mask_code]
  rw [sixteenth_word _ (by omega), sixteenth_word _ (by omega)]

/-- What the body adds up, at joint `j` and lane `l`: the squared differences between the column and the row of the
    first greatest value of the joint's heat map, each a sixteenth, and target words `j` and `14 + j` of the lane. -/
theorem pay3_at (x : FVec Ideal S14x14x14x1024 .f32) (y : FVec Ideal S14x2x1024 .f32) (j : Fin 14) (l : Fin 1024) :
    k0_pay3 (F := Ideal) x y (ix2 j l)
      = (coord (colOf (mapAt x j l)).val - y (ix3 ⟨j.val / 2, by omega⟩ ⟨j.val % 2, by omega⟩ l))
          * (coord (colOf (mapAt x j l)).val - y (ix3 ⟨j.val / 2, by omega⟩ ⟨j.val % 2, by omega⟩ l))
        + (coord (rowOf (mapAt x j l)).val - y (ix3 ⟨(14 + j.val) / 2, by omega⟩ ⟨(14 + j.val) % 2, by omega⟩ l))
          * (coord (rowOf (mapAt x j l)).val - y (ix3 ⟨(14 + j.val) / 2, by omega⟩ ⟨(14 + j.val) % 2, by omega⟩ l)) := by
  rw [pay3_eq]
  refine distV_at _ y j l _ _ ?_
  rw [codeV_at x _ _ _ j l (fun c => colMaxV_at x j c l) (fun c => colArgV_at x _ j c l (colMaxV_at x j c l)), two_rounds]
  rw [topV_at]
  exact congrArg (fun f => Finset.fold max ⊥ f Finset.univ) (funext fun c => colMaxV_at x j c l)

/-- What the body stores: the running sum plus the sum over joints and lanes. -/
theorem pay2_at (v : FVec Ideal S14x1024 .f32) (y : FVec Ideal S1x1 .f32) :
    k0_pay2 (F := Ideal) v y (ix2 0 0) = y (ix2 0 0) + ∑ j : Fin 14, ∑ l : Fin 1024, v (ix2 j l) := by
  pointwise [k0_pay2]

end Cert.KernelIdeal.Value

end
-- ==== Proof.KernelValue.lean ====
/-
  The kernel's result array: the sum, over the sixteen grid points, of the squared distances of the point's block,
  read at the two arguments.
-/
module

public import proofs.«01_k».proof.Proof.Gen.KernelIdeal.Frame
public import proofs.«01_k».proof.Proof.KernelCell
public import Idealize.ShloMosaic.Lib.Pipeline.ValueKit
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.FirstMax Cert.Numbers

variable (m : (ℓ : Loc nD τ sig) → Buf (Elt Ideal) ℓ)

/-- The heat map of joint `j` of batch row `b`. -/
def map1 (H : FVec Ideal S16384x14x14x14 .f32) (b : Fin 16384) (j : Fin 14) : Fin 14 → Fin 14 → EReal :=
  fun r c => H (ix4 b j r c)

/-- The squared distance the kernel adds for joint `j` of batch row `b`: the column of the greatest value against flat
    coordinate `j` of the targets, the row against flat coordinate `14 + j`. -/
def dist (H : FVec Ideal S16384x14x14x14 .f32) (T : FVec Ideal S16384x14x2 .f32) (b : Fin 16384) (j : Fin 14) : EReal :=
  (coord (colOf (map1 H b j)).val - T (ix3 b ⟨j.val / 2, by omega⟩ ⟨j.val % 2, by omega⟩))
      * (coord (colOf (map1 H b j)).val - T (ix3 b ⟨j.val / 2, by omega⟩ ⟨j.val % 2, by omega⟩))
    + (coord (rowOf (map1 H b j)).val - T (ix3 b ⟨(14 + j.val) / 2, by omega⟩ ⟨(14 + j.val) % 2, by omega⟩))
      * (coord (rowOf (map1 H b j)).val - T (ix3 b ⟨(14 + j.val) / 2, by omega⟩ ⟨(14 + j.val) % 2, by omega⟩))

/-- The block indices of the two input windows, at every point. -/
theorem idx : ∀ t : Fin cfg0.N, win0_0.index t = ![0, 0, 0, t.val] ∧ win0_1.index t = ![0, 0, t.val] :=
  (by decide +kernel : ∀ t : Fin grid0.N, _)

/-- The region reads the heat maps transposed: the batch axis last. -/
theorem V_maps (c : Dev nD) : V m c main_v0 = (transpose S14x14x14x16384 [1, 2, 3, 0] (m ((c : Thread nD τ).loc main_arg1))
    transposes_S16384x14x14x14_S14x14x14x16384_1_2_3_0 : FVec Ideal S14x14x14x16384 .f32) := by
  unfold V V0
  simp only [List.flatten_cons, List.flatten_nil, List.append_nil]
  after_results

/-- The region reads the targets transposed: the batch axis last. -/
theorem V_targets (c : Dev nD) : V m c main_v1 = (transpose S14x2x16384 [1, 2, 0] (m ((c : Thread nD τ).loc main_arg2))
    transposes_S16384x14x2_S14x2x16384_1_2_0 : FVec Ideal S14x2x16384 .f32) := by
  unfold V V0
  simp only [List.flatten_cons, List.flatten_nil, List.append_nil]
  after_results

/-- Point `t`'s block of the heat maps: lane `l` is batch row `1024 t + l`. -/
theorem blk_map (c : Dev nD) (t : Fin cfg0.N) (j r k : Fin 14) (l : Fin 1024) (b : Fin 16384) (hb : b.val = 1024 * t.val + l.val) :
    (show FVec Ideal S14x14x14x1024 .f32 from iblk m c 0 t) (ix4 j r k l)
      = (m ((c : Thread nD τ).loc main_arg1) : FVec Ideal S16384x14x14x14 .f32) (ix4 b j r k) := by
  have h : (show FVec Ideal S14x14x14x1024 .f32 from iblk m c 0 t) (ix4 j r k l)
      = (V m c main_v0 : FVec Ideal S14x14x14x16384 .f32) (ix4 j r k b) := by
    blk_ext [iblk, idx t]
  rw [h, V_maps]
  pointwise

/-- Point `t`'s block of the targets. -/
theorem blk_target (c : Dev nD) (t : Fin cfg0.N) (e : Fin 14) (s : Fin 2) (l : Fin 1024) (b : Fin 16384) (hb : b.val = 1024 * t.val + l.val) :
    (show FVec Ideal S14x2x1024 .f32 from iblk m c 1 t) (ix3 e s l)
      = (m ((c : Thread nD τ).loc main_arg2) : FVec Ideal S16384x14x2 .f32) (ix3 b e s) := by
  have h : (show FVec Ideal S14x2x1024 .f32 from iblk m c 1 t) (ix3 e s l)
      = (V m c main_v1 : FVec Ideal S14x2x16384 .f32) (ix3 e s b) := by
    blk_ext [iblk, idx t]
  rw [h, V_targets]
  pointwise

/-- The zero the first point starts from. -/
theorem pay1_at (j : S1x1.Idx) : k0_pay1 (F := Ideal) j = 0 := by
  pointwise [k0_pay1]

/-- What a point adds to the running sum. -/
theorem point (x : FVec Ideal S14x14x14x1024 .f32) (y : FVec Ideal S14x2x1024 .f32) (v : FVec Ideal S1x1 .f32) (j : S1x1.Idx) :
    k0_pay2 (k0_pay3 x y) v j = v j + ∑ i : Fin 14, ∑ l : Fin 1024, k0_pay3 x y (ix2 i l) := by
  obtain rfl : j = ix2 0 0 := by
    funext a
    match a with
    | ⟨0, _⟩ => exact Subsingleton.elim (α := Fin 1) _ _
    | ⟨1, _⟩ => exact Subsingleton.elim (α := Fin 1) _ _
  exact pay2_at _ _

theorem final (c : Dev nD) (j) : (dats m 0 c).arrAt 2 (cfgs 0).N j
    = ∑ t : Fin cfg0.N, ∑ i : Fin 14, ∑ l : Fin 1024, k0_pay3 (F := Ideal) (iblk m c 0 t) (iblk m c 1 t) (ix2 i l) := by
  revert j
  rw [← funext_iff]
  refine (dats m 0 c).arrAt_eq_of_after_last 2 t0_15 (by decide +kernel) _ fun j => ?_
  blk_simp
  rw [after0_2, Pipeline.eq_sum_fin_of_reset_step_apply_last (fun n h => outsAt0 m c n h) 16 (fun _ => 0) _
    (fun t h j => by rw [outsAt0_A m c t h]; frame_out; rw [point, pay1_at])
    (fun t h j => by rw [outsAt0_B m c t h]; frame_out; rw [point])
    (le_of_eq N_0) t0_15 rfl j, zero_add]

end Cert.KernelIdeal.Value

end
-- ==== Proof.KernelSum.lean ====
/-
  The kernel's result: the sixteen blocks' squared distances are those of the 16384 batch rows, each once, and the
  host operations after the grid divide their sum by the constant.
-/
module

public import proofs.«01_k».proof.Proof.KernelValue

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.FirstMax Cert.Numbers

variable (m : (ℓ : Loc nD τ sig) → Buf (Elt Ideal) ℓ)

/-- What point `t` computes for joint `i` in lane `l` is the squared distance of batch row `1024 t + l`. -/
theorem cell (c : Dev nD) (t : Fin cfg0.N) (i : Fin 14) (l : Fin 1024) (b : Fin 16384) (hb : b.val = 1024 * t.val + l.val) :
    k0_pay3 (F := Ideal) (iblk m c 0 t) (iblk m c 1 t) (ix2 i l)
      = dist (m ((c : Thread nD τ).loc main_arg1)) (m ((c : Thread nD τ).loc main_arg2)) b i := by
  have hm : mapAt (show FVec Ideal S14x14x14x1024 .f32 from iblk m c 0 t) i l = map1 (m ((c : Thread nD τ).loc main_arg1)) b i := by
    funext r k
    exact blk_map m c t i r k l b hb
  have h := pay3_at (show FVec Ideal S14x14x14x1024 .f32 from iblk m c 0 t) (show FVec Ideal S14x2x1024 .f32 from iblk m c 1 t) i l
  rw [hm, blk_target m c t _ _ l b hb, blk_target m c t _ _ l b hb] at h
  exact h

/-- The result array holds the sum over the batch rows and the joints. -/
theorem total (c : Dev nD) (j) : (dats m 0 c).arrAt 2 (cfgs 0).N j
    = ∑ b : Fin 16384, ∑ i : Fin 14, dist (m ((c : Thread nD τ).loc main_arg1)) (m ((c : Thread nD τ).loc main_arg2)) b i := by
  have hN : cfg0.N = 16 := N_0
  refine (final m c j).trans ?_
  show (_ : EReal) = _
  refine (Finset.sum_congr rfl fun t _ => Finset.sum_comm).trans ?_
  refine Fin.sum_mul_add_congr (fun t l hl => Finset.sum_congr rfl fun i _ => ?_) (by rw [hN])
  exact cell m c t i l _ (by simp only []; omega)

/-- What the host operations after the grid leave in the result. -/
theorem tail (c : Dev nD) : Pipeline.afterTail₀ cfgs (dats m) 0 (V0 m) [hostOps1] c main_v4
    = (Host.divf (shapeCast S_ ((dats m 0 c).arrAt 2 (cfgs 0).N : FVec Ideal S1x1 .f32) shapeCasts_S1x1_S_) (constant S_ .f32 0x48600000#32)
        : FVec Ideal S_ .f32) := by
  unfold Pipeline.afterTail₀
  simp only [List.flatten_cons, List.flatten_nil, List.append_nil]
  after_results
  rw [show Pipeline.withArrays (cfgs 0).spec c (V0 m c) (fun w => (dats m 0 c).arrAt w (cfgs 0).N) (Proc.devRef .tc main_v2) = (dats m 0 c).arrAt 2 (cfgs 0).N
    from Pipeline.withArrays_arr (cfgs 0).spec launch0.win.arr_inj c (V0 m c) (fun w => (dats m 0 c).arrAt w (cfgs 0).N) 2]
  rfl

/-- The kernel's result: the sum of the squared distances over the constant. -/
theorem result_at (c : Dev nD) (j : S_.Idx) :
    (Pipeline.afterTail₀ cfgs (dats m) 0 (V0 m) [hostOps1] c main_v4 : FVec Ideal S_ .f32) j
      = Ideal.div (∑ b : Fin 16384, ∑ i : Fin 14,
          dist (m ((c : Thread nD τ).loc main_arg1)) (m ((c : Thread nD τ).loc main_arg2)) b i) (Ideal.ofBits .f32 0x48600000#32) := by
  rw [tail]
  have h := total m c
  generalize (dats m 0 c).arrAt 2 (cfgs 0).N = A at h ⊢
  pointwise
  rw [h]

end Cert.KernelIdeal.Value

end
-- ==== Proof.RefPlace.lean ====
/-
  The reference's places: its arg-max over the 196 entries of a heat map is the first place of the greatest value,
  and its floor division and remainder by 14 are the row and the column of that place.
-/
module

public import proofs.«01_k».proof.Proof.Gen.ReferenceIdeal
public import proofs.«01_k».proof.Proof.Numbers
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.FirstMax Cert.Numbers

/-- The heat map of joint `e` of batch row `b`. -/
def mapAt (H : FVec Ideal S16384x14x14x14 .f32) (b : Fin 16384) (e : Fin 14) : Fin 14 → Fin 14 → EReal :=
  fun r c => H (ix4 b e r c)

/-- `q` is at least as good a pair as `p`: a greater value, or the same value and an index no greater. -/
def Better (p q : EReal × BitVec 32) : Prop := p.1 < q.1 ∨ (p.1 = q.1 ∧ q.2.toInt ≤ p.2.toInt)

theorem Better.refl (p : EReal × BitVec 32) : Better p p := .inr ⟨rfl, le_rfl⟩

theorem Better.trans (p q s : EReal × BitVec 32) (h : Better p q) (h' : Better q s) : Better p s := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The arg-max's body returns one of its two pairs, and the better one. -/
theorem reducer_keeps (a b : EReal × BitVec 32) :
    (reducer_argmax_f32_i32 (F := Ideal) a b = a ∧ Better b a) ∨ (reducer_argmax_f32_i32 (F := Ideal) a b = b ∧ Better a b) := by
  obtain ⟨av, ai⟩ := a
  obtain ⟨bv, bi⟩ := b
  simp only [reducer_argmax_f32_i32, Better, Ideal.cmpf_def, Ideal.cmp, IntOp.ori, IntOp.andi, IntOp.cmpi, Scalar.select,
    BitVec.slt_eq_decide]
  rcases lt_trichotomy bv av with h | h | h
  · left; simp [h, h.ne']
  · subst h
    by_cases hi : ai.toInt < bi.toInt
    · left; simp [hi, hi.le]
    · right; simp [hi, not_lt.1 hi]
  · right; simp [h, not_lt.2 h.le, h.ne]

/-- The arg-max over the last axis: at `(b, e)` the word of the first place at which row `(b, e)` is greatest. -/
theorem argReduce_at (X : FVec Ideal S16384x14x196 .f32) (b : Fin 16384) (e : Fin 14) :
    (Host.argReduce (reducer_argmax_f32_i32 (F := Ideal)) X (iotaInDim S16384x14x196 32 2) (constant S_ .f32 0xFF800000#32)
        (constantI S_ 32 0#32) reducesTo_S16384x14x196_S16384x14_d2 h_S_ (ix2 b e)).2
      = BitVec.ofNat 32 (place fun q => X (ix3 b e q)).val := by
  rw [Ideal.argReduce_eq_reduce2, Host.reduce2_eq_foldl_fiber]
  have hinit : ((constant (F := Ideal) S_ .f32 0xFF800000#32 (Shape.Idx.first h_S_) : EReal), constantI S_ 32 0#32 (Shape.Idx.first h_S_))
      = ((⊥ : EReal), 0#32) := by
    rw [← ofBits_bot]; rfl
  rw [hinit]
  have hmem : ∀ p : EReal × BitVec 32, p ∈ Host.argReduceFiber (X : S16384x14x196.Idx → EReal) (iotaInDim S16384x14x196 32 2)
      reducesTo_S16384x14x196_S16384x14_d2 (ix2 b e) ↔ ∃ q : Fin 196, p = (X (ix3 b e q), BitVec.ofNat 32 q.val) := by
    intro p
    unfold Host.argReduceFiber
    simp only [List.mem_map, List.mem_filter, List.mem_finRange, true_and, decide_eq_true_eq]
    constructor
    · rintro ⟨n, hn, rfl⟩
      obtain ⟨k, hk⟩ := (Shape.ReducesTo.fiber_r3_a2 reducesTo_S16384x14x196_S16384x14_d2 (ix2 b e) _).1 hn
      exact ⟨k, by rw [← hk]; rfl⟩
    · rintro ⟨q, rfl⟩
      refine ⟨S16384x14x196.rowMajor (ix3 b e q), ?_, ?_⟩
      · rw [Equiv.symm_apply_apply]
        exact (Shape.ReducesTo.fiber_r3_a2 reducesTo_S16384x14x196_S16384x14_d2 (ix2 b e) _).2 ⟨q, rfl⟩
      · rw [Equiv.symm_apply_apply]; rfl
  obtain ⟨hor, _, hall⟩ := foldl_keeps Better Better.refl Better.trans (reducer_argmax_f32_i32 (F := Ideal)) reducer_keeps
    (Host.argReduceFiber (X : S16384x14x196.Idx → EReal) (iotaInDim S16384x14x196 32 2) reducesTo_S16384x14x196_S16384x14_d2 (ix2 b e))
    ((⊥ : EReal), 0#32)
  generalize List.foldl (reducer_argmax_f32_i32 (F := Ideal)) ((⊥ : EReal), 0#32)
    (Host.argReduceFiber (X : S16384x14x196.Idx → EReal) (iotaInDim S16384x14x196 32 2) reducesTo_S16384x14x196_S16384x14_d2 (ix2 b e)) = p at *
  -- the start is no better than the first entry, so the fold returns an entry
  have hq : ∃ q : Fin 196, p = (X (ix3 b e q), BitVec.ofNat 32 q.val) := by
    rcases hor with h | h
    · have h0 := hall _ ((hmem _).2 ⟨0, rfl⟩)
      rw [h] at h0
      rcases h0 with h0 | ⟨h0, _⟩
      · exact absurd h0 not_lt_bot
      · exact ⟨0, by rw [h]; exact Prod.ext h0.symm rfl⟩
    · exact (hmem p).1 h
  obtain ⟨q, rfl⟩ := hq
  have hfirst : IsFirst (fun q => X (ix3 b e q)) q := by
    have hb : ∀ k : Fin 196, X (ix3 b e k) < X (ix3 b e q) ∨ (X (ix3 b e k) = X (ix3 b e q) ∧ q ≤ k) := fun k => by
      have hqq := q.isLt
      have hkk := k.isLt
      rcases hall _ ((hmem _).2 ⟨k, rfl⟩) with h | ⟨h, hi⟩
      · exact .inl h
      · refine .inr ⟨h, ?_⟩
        simp only [] at hi
        rw [toInt_ofNat_small (by omega), toInt_ofNat_small (by omega)] at hi
        exact_mod_cast hi
    exact ⟨fun k => (hb k).elim (fun h => h.le) fun h => h.1.le, fun k hk => (hb k).elim (fun h => absurd hk h.ne) fun h => h.2⟩
  rw [hfirst.unique (place_isFirst _)]

/-- The second parts of a family of pairs. -/
def second {ι α β : Type} (f : ι → α × β) : ι → β := fun i => (f i).2

/-- A second part, read: stated for any family, so that no particular one is computed. -/
theorem second_at {ι α β : Type} (f : ι → α × β) (i : ι) (v : β) (h : (f i).2 = v) : second f i = v := h

/-- The index part of the arg-max's reduction, over any four operands. -/
def argPart (x : FVec Ideal S16384x14x196 .f32) (y : IVec S16384x14x196 32) (u : FVec Ideal S_ .f32) (v : IVec S_ 32) : IVec S16384x14 32 :=
  second (Host.argReduce (reducer_argmax_f32_i32 (F := Ideal)) x y u v reducesTo_S16384x14x196_S16384x14_d2 h_S_)

/-- `argPart` as the reference's program spells it. -/
theorem argPart_eq (x : FVec Ideal S16384x14x196 .f32) (y : IVec S16384x14x196 32) (u : FVec Ideal S_ .f32) (v : IVec S_ 32) :
    (fun j => (Host.argReduce (reducer_argmax_f32_i32 (F := Ideal)) x y u v reducesTo_S16384x14x196_S16384x14_d2 h_S_ j).2)
      = argPart x y u v := rfl

/-- The reference's arg-max of the rows of `X`. -/
def argI (X : FVec Ideal S16384x14x196 .f32) : IVec S16384x14 32 :=
  argPart X (iotaInDim S16384x14x196 32 2) (constant S_ .f32 0xFF800000#32) (constantI S_ 32 0#32)

/-- The same through `second`. -/
theorem argI_eq (X : FVec Ideal S16384x14x196 .f32) : argI X
    = second (Host.argReduce (reducer_argmax_f32_i32 (F := Ideal)) X (iotaInDim S16384x14x196 32 2) (constant S_ .f32 0xFF800000#32)
        (constantI S_ 32 0#32) reducesTo_S16384x14x196_S16384x14_d2 h_S_) := rfl

/-- At `(b, e)` the arg-max is the word of the first place at which row `(b, e)` is greatest. -/
theorem argI_at (X : FVec Ideal S16384x14x196 .f32) (b : Fin 16384) (e : Fin 14) :
    argI X (ix2 b e) = BitVec.ofNat 32 (place fun q => X (ix3 b e q)).val :=
  (congrFun (argI_eq X) (ix2 b e)).trans (second_at _ _ _ (argReduce_at X b e))

/-- The reference's arg-max of the heat maps, their two last axes laid out as one. -/
def argV (H : FVec Ideal S16384x14x14x14 .f32) : IVec S16384x14 32 :=
  argI (shapeCast S16384x14x196 H shapeCasts_S16384x14x14x14_S16384x14x196)

/-- Entry `q` of the row the two last axes are laid out as is the map read row by row. -/
theorem cast_at (H : FVec Ideal S16384x14x14x14 .f32) (b : Fin 16384) (e : Fin 14) (q : Fin 196) :
    shapeCast S16384x14x196 H shapeCasts_S16384x14x14x14_S16384x14x196 (ix3 b e q) = flat (mapAt H b e) q := by
  unfold flat mapAt
  pointwise

/-- The reference's arg-max of a heat map is the first place of its greatest value, read row by row. -/
theorem argV_at (H : FVec Ideal S16384x14x14x14 .f32) (b : Fin 16384) (e : Fin 14) :
    argV H (ix2 b e) = BitVec.ofNat 32 (place (flat (mapAt H b e))).val := by
  unfold argV
  rw [argI_at, show (fun q => shapeCast S16384x14x196 H shapeCasts_S16384x14x14x14_S16384x14x196 (ix3 b e q)) = flat (mapAt H b e)
    from funext (cast_at H b e)]

/-- The floor division by fourteen, as the reference computes it: the quotient toward zero, less one where the
    signs differ and the remainder is not zero. -/
def rowV (a : IVec S16384x14 32) : IVec S16384x14 32 :=
  select
    (andi
      (cmpi .ne (signi a) (broadcastInDim S16384x14 ![] bcast_S_S16384x14 (signi (constantI S_ 32 14#32))))
      (cmpi .ne (Host.remsi a (broadcastInDim S16384x14 ![] bcast_S_S16384x14 (constantI S_ 32 14#32)))
        (broadcastInDim S16384x14 ![] bcast_S_S16384x14 (constantI S_ 32 0#32))))
    (subi (Host.divsi a (broadcastInDim S16384x14 ![] bcast_S_S16384x14 (constantI S_ 32 14#32)))
      (broadcastInDim S16384x14 ![] bcast_S_S16384x14 (constantI S_ 32 1#32)))
    (Host.divsi a (broadcastInDim S16384x14 ![] bcast_S_S16384x14 (constantI S_ 32 14#32)))

/-- What is left of a place after its row. -/
def colV (a r : IVec S16384x14 32) : IVec S16384x14 32 :=
  subi a (muli r (broadcastInDim S16384x14 ![] bcast_S_S16384x14 (constantI S_ 32 14#32)))

/-- The floor division of the word of a place, decided over the 196 places. -/
theorem row_word : ∀ q : Fin 196, Scalar.select
      (IntOp.andi
        (IntOp.cmpi CmpIPredicate.ne
          ((if BitVec.ofNat 32 q.val = 0 then 0 else if (BitVec.ofNat 32 q.val).msb = true then -1 else 1 : BitVec 32))
          ((if 14#32 = 0 then 0 else if (14#32).msb = true then -1 else 1 : BitVec 32)))
        (IntOp.cmpi CmpIPredicate.ne (IntOp.remsi ArithUnit.host (BitVec.ofNat 32 q.val) 14#32) 0#32))
      (IntOp.subi (IntOp.divsi ArithUnit.host (BitVec.ofNat 32 q.val) 14#32) 1#32)
      (IntOp.divsi ArithUnit.host (BitVec.ofNat 32 q.val) 14#32) =
    BitVec.ofNat 32 (q.val / 14) := by
  decide +kernel

/-- The remainder of the word of a place, decided over the 196 places. -/
theorem col_word : ∀ q : Fin 196, IntOp.subi (BitVec.ofNat 32 q.val) (IntOp.muli (BitVec.ofNat 32 (q.val / 14)) 14#32)
    = BitVec.ofNat 32 (q.val % 14) := by
  decide +kernel

/-- Where the place is `q`, the row is `q / 14`. -/
theorem rowV_at (a : IVec S16384x14 32) (b : Fin 16384) (e : Fin 14) (q : Fin 196) (h : a (ix2 b e) = BitVec.ofNat 32 q.val) :
    rowV a (ix2 b e) = BitVec.ofNat 32 (q.val / 14) := by
  pointwise [rowV]
  simp only [h]
  exact row_word q

/-- Where the place is `q` and the row `q / 14`, the column is `q % 14`. -/
theorem colV_at (a r : IVec S16384x14 32) (b : Fin 16384) (e : Fin 14) (q : Fin 196) (h : a (ix2 b e) = BitVec.ofNat 32 q.val)
    (hr : r (ix2 b e) = BitVec.ofNat 32 (q.val / 14)) : colV a r (ix2 b e) = BitVec.ofNat 32 (q.val % 14) := by
  pointwise [colV]
  simp only [h, hr]
  exact col_word q

end Cert.ReferenceIdeal.Value

end
-- ==== Proof.RefValue.lean ====
/-
  The reference's result as a term over its two arguments, and that term read: the sum over the batch rows and the
  28 flat coordinates of the squared differences, divided by the constant.
-/
module

public import proofs.«01_k».proof.Proof.RefPlace
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.FirstMax Cert.Numbers

/-- A place's number as a coordinate: times fourteen, over 224. -/
def ratioV (a : IVec S16384x14 32) : FVec Ideal S16384x14 .f32 :=
  Host.divf (mulf (sitofp .f32 a) (broadcastInDim S16384x14 ![] bcast_S_S16384x14 (constant S_ .f32 0x41600000#32)))
    (broadcastInDim S16384x14 ![] bcast_S_S16384x14 (constant S_ .f32 0x43600000#32))

/-- The columns' coordinates and the rows' side by side, laid out as the targets are. -/
def predV (a : IVec S16384x14 32) : FVec Ideal S16384x14x2 .f32 :=
  shapeCast S16384x14x2
    (concatenate S16384x28 1 [⟨S16384x14, ratioV (colV a (rowV a))⟩, ⟨S16384x14, ratioV (rowV a)⟩] concatenates_S16384x14_S16384x14_S16384x28_d1)
    shapeCasts_S16384x28_S16384x14x2

/-- All differences in one row. -/
def diffV (P T : FVec Ideal S16384x14x2 .f32) : FVec Ideal S458752 .f32 :=
  shapeCast S458752 (subf P T) shapeCasts_S16384x14x2_S458752

/-- The sum of squares of a row, as a product of the row with itself. -/
def squareV (d : FVec Ideal S458752 .f32) : FVec Ideal S_ .f32 :=
  shapeCast S_ (Host.dotGeneral dot_S1x458752_S458752_S1_1_0_0_n_n_n none
    (broadcastInDim S1x458752 ![1] bcast_S458752_S1x458752_1 d) d) shapeCasts_S1_S_

/-- The reference's result over the heat maps and the targets, with any function `A` of four operands for its arg-max. -/
def REFOf (A : FVec Ideal S16384x14x196 .f32 → IVec S16384x14x196 32 → FVec Ideal S_ .f32 → IVec S_ 32 → IVec S16384x14 32)
    (H : FVec Ideal S16384x14x14x14 .f32) (T : FVec Ideal S16384x14x2 .f32) : FVec Ideal S_ .f32 :=
  Host.divf (squareV (diffV (predV (A (shapeCast S16384x14x196 H shapeCasts_S16384x14x14x14_S16384x14x196)
    (iotaInDim S16384x14x196 32 2) (constant S_ .f32 0xFF800000#32) (constantI S_ 32 0#32))) T)) (constant S_ .f32 0x48600000#32)

/-- The reference's result over the heat maps and the targets. -/
def REF (H : FVec Ideal S16384x14x14x14 .f32) (T : FVec Ideal S16384x14x2 .f32) : FVec Ideal S_ .f32 :=
  Host.divf (squareV (diffV (predV (argV H)) T)) (constant S_ .f32 0x48600000#32)

/-- The reference's result is `REFOf` at its arg-max. -/
theorem REFOf_argPart (H : FVec Ideal S16384x14x14x14 .f32) (T : FVec Ideal S16384x14x2 .f32) : REFOf argPart H T = REF H T := by
  unfold REFOf REF argV argI
  rfl

/-- Coordinate `q` of batch row `b` as the reference predicts it: the column of map `q` for the first fourteen, the row
    of map `q - 14` for the others. -/
def pred (H : FVec Ideal S16384x14x14x14 .f32) (b : Fin 16384) (q : Fin 28) : EReal :=
  if h : q.val < 14 then coord (colOf (mapAt H b ⟨q.val, h⟩)).val else coord (rowOf (mapAt H b ⟨q.val - 14, by omega⟩)).val

theorem ratioV_at (a : IVec S16384x14 32) (b : Fin 16384) (e : Fin 14) (n : ℕ) (hn : n < 14) (h : a (ix2 b e) = BitVec.ofNat 32 n) :
    ratioV a (ix2 b e) = coord n := by
  pointwise [ratioV]
  rw [h]
  exact ratio_word n (by omega)

theorem predV_at (H : FVec Ideal S16384x14x14x14 .f32) (b : Fin 16384) (e : Fin 14) (s : Fin 2) (q : Fin 28) (hq : q.val = 2 * e.val + s.val) :
    predV (argV H) (ix3 b e s) = pred H b q := by
  have hc (i : Fin 14) : ratioV (colV (argV H) (rowV (argV H))) (ix2 b i) = coord (colOf (mapAt H b i)).val :=
    ratioV_at _ b i _ (colOf (mapAt H b i)).isLt (colV_at _ _ b i _ (argV_at H b i) (rowV_at _ b i _ (argV_at H b i)))
  have hr (i : Fin 14) : ratioV (rowV (argV H)) (ix2 b i) = coord (rowOf (mapAt H b i)).val :=
    ratioV_at _ b i _ (rowOf (mapAt H b i)).isLt (rowV_at _ b i _ (argV_at H b i))
  unfold predV
  generalize ratioV (colV (argV H) (rowV (argV H))) = X at *
  generalize ratioV (rowV (argV H)) = Y at *
  pointwise
  obtain ⟨q, hlt⟩ := q
  obtain rfl : q = e.val * 2 + s.val := by
    simp only [] at hq
    omega
  unfold pred
  by_cases h : e.val * 2 + s.val < 14
  · rw [dif_pos h, dif_pos h, hc]
  · rw [dif_neg h, dif_neg h, hr]

theorem squareV_at (d : FVec Ideal S458752 .f32) (j : S_.Idx) :
    squareV d j = ∑ n : Fin 458752, d (ix1 n) * d (ix1 n) := by
  pointwise [squareV]

theorem diffV_at (P T : FVec Ideal S16384x14x2 .f32) (n : Fin 458752) :
    diffV P T (ix1 n) = P (ix3 ⟨n.val / 28, by omega⟩ ⟨n.val % 28 / 2, by omega⟩ ⟨n.val % 2, by omega⟩)
      - T (ix3 ⟨n.val / 28, by omega⟩ ⟨n.val % 28 / 2, by omega⟩ ⟨n.val % 2, by omega⟩) := by
  pointwise [diffV]
  rw [show (⟨n.val / 2 % 14, by omega⟩ : Fin 14) = ⟨n.val % 28 / 2, by omega⟩ from Fin.ext (by simp only []; omega)]

/-- The squared difference at coordinate `q` of batch row `b`. -/
def diff2 (H : FVec Ideal S16384x14x14x14 .f32) (T : FVec Ideal S16384x14x2 .f32) (b : Fin 16384) (q : Fin 28) : EReal :=
  (pred H b q - T (ix3 b ⟨q.val / 2, by omega⟩ ⟨q.val % 2, by omega⟩)) * (pred H b q - T (ix3 b ⟨q.val / 2, by omega⟩ ⟨q.val % 2, by omega⟩))

/-- The reference's result: the sum of all squared differences over the constant. -/
theorem REF_at (H : FVec Ideal S16384x14x14x14 .f32) (T : FVec Ideal S16384x14x2 .f32) (j : S_.Idx) :
    REF H T j = Ideal.div (∑ b : Fin 16384, ∑ q : Fin 28, diff2 H T b q) (Ideal.ofBits .f32 0x48600000#32) := by
  have hs : squareV (diffV (predV (argV H)) T) j = ∑ b : Fin 16384, ∑ q : Fin 28, diff2 H T b q := by
    rw [squareV_at, Fin.sum_univ_tiles 16384 28 rfl]
    refine Finset.sum_congr rfl fun b _ => Finset.sum_congr rfl fun q _ => ?_
    have hd : diffV (predV (argV H)) T (ix1 ⟨b.val * 28 + q.val, by omega⟩)
        = pred H b q - T (ix3 b ⟨q.val / 2, by omega⟩ ⟨q.val % 2, by omega⟩) := by
      have e1 : (⟨(b.val * 28 + q.val) / 28, by omega⟩ : Fin 16384) = b := Fin.ext (by simp only []; omega)
      have e2 : (⟨(b.val * 28 + q.val) % 28 / 2, by omega⟩ : Fin 14) = ⟨q.val / 2, by omega⟩ := Fin.ext (by simp only []; omega)
      have e3 : (⟨(b.val * 28 + q.val) % 2, by omega⟩ : Fin 2) = ⟨q.val % 2, by omega⟩ := Fin.ext (by simp only []; omega)
      rw [diffV_at]
      simp only [e1, e2, e3]
      rw [predV_at H b _ _ q (by simp only []; omega)]
    exact congrArg₂ (· * ·) hd hd
  unfold REF
  pointwise
  rw [hs]

end Cert.ReferenceIdeal.Value

end
-- ==== Proof.Bridge.lean ====
/-
  Kernel and reference add the same squared differences: fourteen joints of two squares each, or 28 coordinates.
-/
module

public import proofs.«01_k».proof.Proof.KernelSum
public import proofs.«01_k».proof.Proof.RefValue

@[expose] public section

set_option maxRecDepth 16384

noncomputable section

namespace Cert.Bridge

open Idealize.ShloMosaic

/-- One batch row: the kernel's sum over the joints is the reference's over the coordinates. -/
theorem row_sum (H : FVec Ideal Cert.ReferenceIdeal.S16384x14x14x14 .f32) (T : FVec Ideal Cert.ReferenceIdeal.S16384x14x2 .f32) (b : Fin 16384) :
    ∑ i : Fin 14, Cert.KernelIdeal.Value.dist H T b i = ∑ q : Fin 28, Cert.ReferenceIdeal.Value.diff2 H T b q := by
  rw [Fin.sum_univ_two_halves 14 14 rfl, ← Finset.sum_add_distrib]
  refine Finset.sum_congr rfl fun i _ => ?_
  have h1 : Cert.ReferenceIdeal.Value.pred H b ⟨i.val, by omega⟩
      = Cert.Numbers.coord (Cert.FirstMax.colOf (Cert.KernelIdeal.Value.map1 H b i)).val := by
    unfold Cert.ReferenceIdeal.Value.pred
    rw [dif_pos (show (⟨i.val, by omega⟩ : Fin 28).val < 14 from i.isLt)]
    rfl
  have h2 : Cert.ReferenceIdeal.Value.pred H b ⟨14 + i.val, by omega⟩
      = Cert.Numbers.coord (Cert.FirstMax.rowOf (Cert.KernelIdeal.Value.map1 H b i)).val := by
    unfold Cert.ReferenceIdeal.Value.pred
    rw [dif_neg (show ¬(⟨14 + i.val, by omega⟩ : Fin 28).val < 14 by simp only []; omega)]
    rw [show (⟨(⟨14 + i.val, by omega⟩ : Fin 28).val - 14, by omega⟩ : Fin 14) = i from Fin.ext (by simp only []; omega)]
    rfl
  unfold Cert.ReferenceIdeal.Value.diff2 Cert.KernelIdeal.Value.dist
  rw [h1, h2]

/-- The reference's result, as the kernel's sum. -/
theorem REF_eq (H : FVec Ideal Cert.ReferenceIdeal.S16384x14x14x14 .f32) (T : FVec Ideal Cert.ReferenceIdeal.S16384x14x2 .f32)
    (j : Cert.ReferenceIdeal.S_.Idx) : Cert.ReferenceIdeal.Value.REF H T j
      = Ideal.div (∑ b : Fin 16384, ∑ i : Fin 14, Cert.KernelIdeal.Value.dist H T b i) (Ideal.ofBits .f32 0x48600000#32) := by
  have h : (fun b => ∑ q : Fin 28, Cert.ReferenceIdeal.Value.diff2 H T b q)
      = fun b => ∑ i : Fin 14, Cert.KernelIdeal.Value.dist H T b i := funext fun b => (row_sum H T b).symm
  rw [Cert.ReferenceIdeal.Value.REF_at, h]

/-- The reference's result is the kernel's. -/
theorem result_eq (m : (ℓ : Loc Cert.KernelIdeal.nD Cert.KernelIdeal.τ Cert.KernelIdeal.sig) → Buf (Elt Ideal) ℓ) (c : Dev Cert.KernelIdeal.nD) :
    Cert.ReferenceIdeal.Value.REF (m (c.tc.loc Cert.KernelIdeal.main_arg1)) (m (c.tc.loc Cert.KernelIdeal.main_arg2))
      = Pipeline.afterTail₀ Cert.KernelIdeal.cfgs (Cert.KernelIdeal.Gen.dats m) 0 (Cert.KernelIdeal.Gen.V0 m) [Cert.KernelIdeal.Gen.hostOps1] c Cert.KernelIdeal.main_v4 := by
  funext j
  exact (REF_eq _ _ j).trans (Cert.KernelIdeal.Value.result_at m c j).symm

end Cert.Bridge

end
-- ==== Proof.lean ====
/-
  The certificate: the frames of the kernel, of its idealization and of the reference, and the equality of the kernel's
  result with the reference's over the extended reals.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Bridge
public import Idealize.ShloMosaic.Lib.Claim
public import Idealize.ShloMosaic.Lib.Quiescent

@[expose] public section

noncomputable section

namespace Cert.Proof

open Idealize.ShloMosaic Idealize.ShloMosaic.TcCoe Idealize.SL.Sem

/-- The reference terminates and leaves its arguments as they were. -/
theorem reference_frame : Cert.quiescent_ReferenceIdeal := by
  unfold Cert.quiescent_ReferenceIdeal
  intro m g _
  hlo_run
  · exact fun _ => ⟨trivial, trivial, trivial, trivial⟩
  · exact sem_eq_zero_of_no_sems (sig := Cert.ReferenceIdeal.sig) (by decide) _

set_option maxHeartbeats 4000000 in
set_option maxRecDepth 16384 in
/-- Kernel and reference, run from memories that agree on the arguments, end with equal results. -/
theorem values : Cert.algebraic_KernelIdeal_ReferenceIdeal := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
  · hlo_run
    rw [Cert.ReferenceIdeal.Value.argPart_eq]
    refine Eq.trans (b := Cert.ReferenceIdeal.Value.REFOf Cert.ReferenceIdeal.Value.argPart
      (m' (c.tc.loc Cert.ReferenceIdeal.main_arg1)) (m (c.tc.loc Cert.KernelIdeal.main_arg2))) ?_ ?_
    · generalize Cert.ReferenceIdeal.Value.argPart = A
      repeat rw [StableHlo.TRef.ofBuf_toBuf]
      simp -implicitDefEqProofs only [StableHlo.TRef.toBuf, StableHlo.TRef.ofBuf]
      repeat rw [cast_eq]
      rfl
    · rw [(hagree c).2.1, Cert.ReferenceIdeal.Value.REFOf_argPart]
      exact Cert.Bridge.result_eq m c

/-- Everything claimed: the three frames, that the idealized kernel is the kernel's program, and the equality of the results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, values⟩

end Cert.Proof

end
